-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S4x8192 : Shape := ⟨2, ![4, 8192]⟩
abbrev S8192x1024 : Shape := ⟨2, ![8192, 1024]⟩
abbrev S4x256x1024 : Shape := ⟨3, ![4, 256, 1024]⟩
abbrev S_ : Shape := ⟨0, ![]⟩
abbrev S1x256x1024 : Shape := ⟨3, ![1, 256, 1024]⟩
abbrev S256x1024 : Shape := ⟨2, ![256, 1024]⟩
abbrev S1x8192x1024 : Shape := ⟨3, ![1, 8192, 1024]⟩

abbrev nBuf : Table → Nat
  | .hbm => 4
  | .shared => 1
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | .hbm, ⟨3, _⟩ => ⟨S1x8192x1024, .f32⟩
  | .shared, ⟨0, _⟩ => ⟨S4x256x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_3 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192 : Shape := ⟨2, ![4, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Ring.lean ====
/-
  The kernel's body on one sequencer, run from the pieces it moves: the sixteen chunks of 256 rows of the table that fall
  to the SparseCore, the same sixteen chunks of the output, the four banks of the shared scratch and the eight DMA
  semaphores at zero. The ring keeps up to four transfers in flight; it is run straight through by the symbolic executor,
  and leaves every chunk of the output holding the table's chunk. Everything here is at arbitrary float values `F`.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Ring
public import Idealize.ShloMosaic.Lib.Tactic
public import proofs.«01_k».proof.Proof.Gen.KernelIdeal
public import proofs.«01_k».proof.Proof.Gen.KernelIdeal.Skeleton

@[expose] public section

noncomputable section

namespace Cert.Proof.RingCopy

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The algebra: the launch's handshakes beside the transfers' counters -/

abbrev UH : Type := URounds (GSem nD τ sig) ℕ
abbrev UU : Type := UH × Counters

local notation "𝕄" => MT nD τ sig (HIx 1) (Elt F) ℕ UU ℕ

/-! ## The pieces the kernel moves -/

-- the table, the output and the banks as the body is handed them
local notation "peW" => (Memref.whole Cert.KernelIdeal.main_arg1_scs : Memref Cert.KernelIdeal.sig Kind.scScalar Space.hbm Cert.KernelIdeal.S8192x1024 EltTy.f32)
local notation "outW" => (Memref.whole Cert.KernelIdeal.main_v0_scs : Memref Cert.KernelIdeal.sig Kind.scScalar Space.hbm Cert.KernelIdeal.S8192x1024 EltTy.f32)
local notation "shW" => (Memref.whole Cert.KernelIdeal.cc0_scratch0 : Memref Cert.KernelIdeal.sig Kind.scScalar Space.shared Cert.KernelIdeal.S4x256x1024 EltTy.f32)

/-- The table and the output, as the TensorCore names them, and a SparseCore's shared scratch. -/
abbrev peLoc (d : Dev nD) : Loc nD τ sig := (SparseCore.T d).loc main_arg1
abbrev outLoc (d : Dev nD) : Loc nD τ sig := (SparseCore.T d).loc main_v0
abbrev shLoc (d : Dev nD) (c : Fin τ.nSC) : Loc nD τ sig := (S d c).loc cc0_scratch0

/-- The grid point of SparseCore `c`'s sequencer. -/
def pt (c : Fin (grid0.bound 0)) : grid0.Coords := fun | 0 => c | ⟨_ + 1, h⟩ => absurd h (Nat.not_lt.2 (Nat.le_add_left _ _))

/-- Chunk `r` at grid point `i`: 256 whole rows, from the row the kernel computes. -/
abbrev rowsOf (i : grid0.Coords) (r : Fin 16) : Rect S8192x1024 :=
  Rect.unit (s := S8192x1024) (k0_off1 i (BitVec.ofNat 32 (256 * r.val))) S256x1024.size (k0_off1_inb i r)

/-- Chunk `r` of the table and of the output. -/
abbrev peC (i : grid0.Coords) (r : Fin 16) : Memref sig .scScalar .hbm S256x1024 .f32 := (peW).slice (rowsOf i r) (fun _ => rfl)
abbrev outC (i : grid0.Coords) (r : Fin 16) : Memref sig .scScalar .hbm S256x1024 .f32 := (outW).slice (rowsOf i r) (fun _ => rfl)

theorem bank_inb (b : Fin 4) : ∀ a, (![b.val, 0, 0] : Fin 3 → Nat) a + S1x256x1024.size a ≤ S4x256x1024.size a := by
  have := b.isLt; intro a; fin_cases a <;> simp <;> omega

/-- Bank `b` of the shared scratch. -/
abbrev bank (b : Fin 4) : Memref sig .scScalar .shared S256x1024 .f32 :=
  ((shW).slice (Rect.unit (s := S4x256x1024) ![b.val, 0, 0] S1x256x1024.size (bank_inb b)) (fun _ => rfl)).squeeze S256x1024 squeezes_S1x256x1024_S256x1024

/-! ## Families of four, eight and sixteen, written out -/

section Spelt

variable {M : Type} [URA M] (Φ4 : Fin 4 → sProp M) (Φ8 : Fin 8 → sProp M) (Φ : Fin 16 → sProp M)

theorem sep4 : bigSep Finset.univ Φ4 = iprop(Φ4 ⟨0, by decide⟩ ∗ Φ4 ⟨1, by decide⟩ ∗ Φ4 ⟨2, by decide⟩ ∗ Φ4 ⟨3, by decide⟩) :=
  bigSep_univ_eq_bigSepL [0, 1, 2, 3] (by decide) (by decide) Φ4

theorem sep8 : bigSep Finset.univ Φ8 = iprop(Φ8 ⟨0, by decide⟩ ∗ Φ8 ⟨1, by decide⟩ ∗ Φ8 ⟨2, by decide⟩ ∗ Φ8 ⟨3, by decide⟩
    ∗ Φ8 ⟨4, by decide⟩ ∗ Φ8 ⟨5, by decide⟩ ∗ Φ8 ⟨6, by decide⟩ ∗ Φ8 ⟨7, by decide⟩) :=
  bigSep_univ_eq_bigSepL [0, 1, 2, 3, 4, 5, 6, 7] (by decide) (by decide) Φ8

theorem sep16 : bigSep Finset.univ Φ = iprop(Φ ⟨0, by decide⟩ ∗ Φ ⟨1, by decide⟩ ∗ Φ ⟨2, by decide⟩ ∗ Φ ⟨3, by decide⟩
    ∗ Φ ⟨4, by decide⟩ ∗ Φ ⟨5, by decide⟩ ∗ Φ ⟨6, by decide⟩ ∗ Φ ⟨7, by decide⟩ ∗ Φ ⟨8, by decide⟩ ∗ Φ ⟨9, by decide⟩
    ∗ Φ ⟨10, by decide⟩ ∗ Φ ⟨11, by decide⟩ ∗ Φ ⟨12, by decide⟩ ∗ Φ ⟨13, by decide⟩ ∗ Φ ⟨14, by decide⟩ ∗ Φ ⟨15, by decide⟩) :=
  bigSep_univ_eq_bigSepL [0, 1, 2, 3, 4, 5, 6, 7, 8, 9, 10, 11, 12, 13, 14, 15] (by decide) (by decide) Φ

end Spelt

/-! ## The run -/

section Body

variable (d : Dev nD) (c : Fin (grid0.bound 0))

/-- SparseCore `c`'s sequencer. -/
abbrev thr : Thread nD τ := S d (c.castLE hcore0)

variable (p : Buf (Elt F) (peLoc d)) (f : Buf (Elt F) (outLoc d)) (g : Buf (Elt F) (shLoc d (c.castLE hcore0)))

/-- Chunk `r` of the table at `p`, chunk `r` of the output at `f`, bank `b` at `g`, semaphore `k` at zero: each held by
    its own elements only, as the sequencer addresses it. -/
abbrev peP (r : Fin 16) : sProp 𝕄 := (peC (pt c) r).view.loc (thr d c) ↦[(peC (pt c) r).view.set]{fullShare} p
abbrev outP (r : Fin 16) : sProp 𝕄 := (outC (pt c) r).view.loc (thr d c) ↦[(outC (pt c) r).view.set]{fullShare} f
abbrev bankP (b : Fin 4) : sProp 𝕄 := (bank b).view.loc (thr d c) ↦[(bank b).view.set]{fullShare} g
abbrev cell0 (k : Fin 8) : sProp 𝕄 := semVal (thr d c, SemLoc.dma (k : DmaSem sig)) 0

/-- The output's contents once bank `b` has been stored in chunk `r`, the bank having last been loaded with the table's
    chunk `r` (`L`: the bank's loads before that one). -/
abbrev stored (r : Fin 16) (b : Fin 4) (L : List (View.Piece (Elt F) S256x1024 .f32)) : Buf (Elt F) (outLoc d) :=
  (outC (pt c) r).view.writes (Elt F) f [⟨Rect.whole S256x1024, (bank b).view.read (Elt F)
    ((bank b).view.writes (Elt F) g (⟨Rect.whole S256x1024, (peC (pt c) r).view.read (Elt F) p⟩ :: L))⟩]

/-- The bank chunk `r` goes through. -/
abbrev bankOf (r : Fin 16) : Fin 4 := ⟨r.val % 4, Nat.mod_lt _ (by decide)⟩

/-- The output's contents from the table's: the two arrays have one shape and one element type. -/
abbrev asOut : Buf (Elt F) (outLoc d) := p

/-- On chunk `r` those contents are the table's. -/
theorem stored_eq (r : Fin 16) (b : Fin 4) (L : List (View.Piece (Elt F) S256x1024 .f32)) :
    outP d c (stored d c p f g r b L) r = outP d c (asOut d p) r := by
  refine pointsTo_congr fun j hj => ?_
  obtain ⟨x, -, rfl⟩ := Finset.mem_map.mp hj
  have h₁ := congrFun (View.read_writes_whole (outC (pt c) r).view f ((bank b).view.read (Elt F)
    ((bank b).view.writes (Elt F) g (⟨Rect.whole S256x1024, (peC (pt c) r).view.read (Elt F) p⟩ :: L)))) x
  have h₂ := View.read_writes_cons_emb (bank b).view g (Rect.whole S256x1024) ((peC (pt c) r).view.read (Elt F) p) L x
  rw [Rect.emb_whole_apply] at h₂
  rw [View.read_apply] at h₁
  rw [cast_eq] at h₁
  have h₃ : (peC (pt c) r).view.read (Elt F) p x = asOut d p ((outC (pt c) r).view.emb x) := rfl
  exact h₁.trans (h₂.trans h₃)

/-- So all sixteen chunks stored are the output's chunks at the table's contents. -/
theorem stored_all :
    bigSep Finset.univ (fun r => iprop(∃ L, outP d c (stored d c p f g r (bankOf r) L) r))
      ⊢ (bigSep Finset.univ (outP d c (asOut d p)) : sProp 𝕄) := by
  refine BI.bigSep_mono fun r _ => ?_
  show iprop(∃ L, outP d c (stored d c p f g r (bankOf r) L) r) ⊢ outP d c (asOut d p) r
  iintro ⟨%L, H⟩
  iapply (Entails.of_eq (stored_eq d c p f g r (bankOf r) L)); iexact H

variable [FloatOps F]

/-- The body on one sequencer: from the chunks, the banks and the semaphores at zero, every transfer lands and is waited
    for, and the table's chunks are as they were, the output's chunks hold the table's, the banks hold something and the
    semaphores are at zero again. -/
theorem body_run (O : CellTallies nD τ sig (HIx 1)) (W : Waits sig (HIx 1)) :
    (iprop(Transfers.MayWaits (thr d c) (none : HIx 1) O
        ∗ bigSep Finset.univ (peP d c p) ∗ bigSep Finset.univ (outP d c f)
        ∗ bigSep Finset.univ (bankP d c g) ∗ bigSep Finset.univ (cell0 d c)
        ∗ owes (thr d c) O W) : sProp 𝕄)
      ⊢ wp frame (wpE (defs₀ (F := F)) Variants.none (thr d c) none) Set.univ
          (cc0_copy_k (pt c) peW (Memref.isWhole_whole _) outW (Memref.isWhole_whole _) shW (Memref.isWhole_whole _)
            cc0_scratch1 cc0_scratch2 cc0_scratch3 cc0_scratch4 cc0_scratch5 cc0_scratch6 cc0_scratch7 cc0_scratch8)
          fun _ => iprop(bigSep Finset.univ (peP d c p)
            ∗ bigSep Finset.univ (fun r => iprop(∃ L, outP d c (stored d c p f g r (bankOf r) L) r))
            ∗ bigSep Finset.univ (fun b => iprop(∃ g', bankP d c g' b)) ∗ bigSep Finset.univ (cell0 d c)
            ∗ ∃ W', owes (thr d c) O W') := by
  simp only [sep16, sep8, sep4]
  iintro ⟨#Hmw, ⟨Hp0, Hp1, Hp2, Hp3, Hp4, Hp5, Hp6, Hp7, Hp8, Hp9, Hp10, Hp11, Hp12, Hp13, Hp14, Hp15⟩,
    ⟨Ho0, Ho1, Ho2, Ho3, Ho4, Ho5, Ho6, Ho7, Ho8, Ho9, Ho10, Ho11, Ho12, Ho13, Ho14, Ho15⟩, ⟨Hb0, Hb1, Hb2, Hb3⟩,
    ⟨Hc0, Hc1, Hc2, Hc3, Hc4, Hc5, Hc6, Hc7⟩, HO⟩
  simp only [cc0_copy_k_eq_skeleton]; unfold cc0_copy_k_skel
  sl_exec
  sl_step
  sl_close

end Body

end Cert.Proof.RingCopy

end
-- ==== Proof.Pieces.lean ====
/-
  The arrays cut into the pieces the kernel moves: the thirty-two chunks of 256 rows, sixteen to a SparseCore, are
  disjoint and make up the 8192 rows, and the four banks are disjoint and make up the shared scratch. So the table and the
  output held whole are the two SparseCores' chunks held one by one, and a scratch held whole is its four banks.
-/
module

public import proofs.«01_k».proof.Proof.Ring

@[expose] public section

noncomputable section

namespace Cert.Proof.RingCopy

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The chunks -/

/-- The SparseCore and the number within it of the `k`-th chunk of the whole array: `k = number + 16 · SparseCore`. -/
abbrev home (k : Fin 32) : Fin 2 × Fin 16 := (finProdFinEquiv (m := 2) (n := 16)).symm k

/-- Chunk `k` of the thirty-two starts at row `256 · k` and column 0. -/
theorem chunk_off (k : Fin 32) : k0_off1 (pt (home k).1) (BitVec.ofNat 32 (256 * (home k).2.val)) = ![256 * k.val, 0] := by
  have h : (finProdFinEquiv (home k)).val = k.val := congrArg Fin.val (Equiv.apply_symm_apply _ k)
  rw [finProdFinEquiv_apply_val] at h
  rw [k0_off1_eq, show ((pt (home k).1) 0).val = (home k).1.val from rfl, ← h]
  exact congrArg (fun n => ![n, 0]) (by omega)

/-- The elements of chunk `k`. -/
abbrev chunkSet (k : Fin 32) : Finset S8192x1024.Idx := (rowsOf (pt (home k).1) (home k).2).set

theorem chunks_disjoint (k k' : Fin 32) (h : k ≠ k') : Disjoint (chunkSet k) (chunkSet k') :=
  Ring.lead_disjoint (s := S8192x1024) (0 : Fin 2) 256 (fun k : Fin 32 => k0_off1 (pt (home k).1) (BitVec.ofNat 32 (256 * (home k).2.val)))
    S256x1024.size (fun k => k0_off1_inb _ _) (fun k => by rw [chunk_off]; rfl) rfl k k' h

theorem chunks_cover : Finset.univ.biUnion chunkSet = Finset.univ :=
  Ring.lead_cover (s := S8192x1024) (0 : Fin 2) 256 (fun k : Fin 32 => k0_off1 (pt (home k).1) (BitVec.ofNat 32 (256 * (home k).2.val)))
    S256x1024.size (fun k => k0_off1_inb _ _) (fun k => by rw [chunk_off]; rfl)
    (fun k a ha => by rw [chunk_off]; fin_cases a <;> first | exact absurd rfl ha | rfl) rfl
    (fun a ha => by fin_cases a <;> first | exact absurd rfl ha | rfl) rfl

theorem chunkSet_of (k : Fin 32) (x : Fin 2 × Fin 16) (h : home k = x) : chunkSet k = (rowsOf (pt x.1) x.2).set := by
  subst h; rfl

theorem chunkSet_pair (c : Fin 2) (r : Fin 16) : chunkSet (finProdFinEquiv (c, r)) = (rowsOf (pt c) r).set :=
  chunkSet_of _ (c, r) (Equiv.symm_apply_apply finProdFinEquiv (c, r))

/-- A family over the chunks, SparseCore by SparseCore. -/
theorem by_core (Φ : Finset S8192x1024.Idx → sProp 𝕄) :
    (bigSep Finset.univ fun k => Φ (chunkSet k)) = bigSep Finset.univ fun c : Fin 2 => bigSep Finset.univ fun r => Φ (rowsOf (pt c) r).set := by
  rw [BI.bigSep_univ_equiv (finProdFinEquiv (m := 2) (n := 16)), BI.bigSep_univ_prod]
  exact bigSep_congr fun c _ => bigSep_congr fun r _ => by rw [chunkSet_pair]

variable (d : Dev nD)

theorem peP_eq (c : Fin (grid0.bound 0)) (p : Buf (Elt F) (peLoc d)) (r : Fin 16) :
    peP d c p r = (peLoc d ↦[(rowsOf (pt c) r).set]{fullShare} p : sProp 𝕄) := by
  rw [show (rowsOf (pt c) r).set = (peC (pt c) r).view.set from (View.set_slice_whole _ _).symm]

theorem outP_eq (c : Fin (grid0.bound 0)) (f : Buf (Elt F) (outLoc d)) (r : Fin 16) :
    outP d c f r = (outLoc d ↦[(rowsOf (pt c) r).set]{fullShare} f : sProp 𝕄) := by
  rw [show (rowsOf (pt c) r).set = (outC (pt c) r).view.set from (View.set_slice_whole _ _).symm]

/-- The table held whole is its chunks held by the two sequencers. -/
theorem pe_chunks (p : Buf (Elt F) (peLoc d)) :
    (peLoc d ↦{fullShare} p : sProp 𝕄) = bigSep Finset.univ fun c : Fin 2 => bigSep Finset.univ (peP d c p) := by
  rw [Ring.pointsTo_blocks chunkSet chunks_disjoint chunks_cover p, by_core fun J => peLoc d ↦[J]{fullShare} p]
  exact bigSep_congr fun c _ => bigSep_congr fun r _ => (peP_eq d c p r).symm

/-- The output held whole is its chunks held by the two sequencers. -/
theorem out_chunks (f : Buf (Elt F) (outLoc d)) :
    (outLoc d ↦{fullShare} f : sProp 𝕄) = bigSep Finset.univ fun c : Fin 2 => bigSep Finset.univ (outP d c f) := by
  rw [Ring.pointsTo_blocks chunkSet chunks_disjoint chunks_cover f, by_core fun J => outLoc d ↦[J]{fullShare} f]
  exact bigSep_congr fun c _ => bigSep_congr fun r _ => (outP_eq d c f r).symm

/-! ## The banks -/

/-- The elements of bank `b`. -/
abbrev bankSet (b : Fin 4) : Finset S4x256x1024.Idx := (Rect.unit (s := S4x256x1024) ![b.val, 0, 0] S1x256x1024.size (bank_inb b)).set

theorem bank_set (b : Fin 4) : (bank b).view.set = bankSet b := by
  simp only [bank, Memref.view_squeeze, View.set_reshape]; exact View.set_slice_whole _ _

theorem banks_disjoint (b b' : Fin 4) (h : b ≠ b') : Disjoint (bankSet b) (bankSet b') :=
  Ring.lead_disjoint (s := S4x256x1024) (0 : Fin 3) 1 (fun b : Fin 4 => ![b.val, 0, 0]) S1x256x1024.size bank_inb (fun b => (Nat.one_mul _).symm) rfl b b' h

theorem banks_cover : Finset.univ.biUnion bankSet = Finset.univ :=
  Ring.lead_cover (s := S4x256x1024) (0 : Fin 3) 1 (fun b : Fin 4 => ![b.val, 0, 0]) S1x256x1024.size bank_inb (fun b => (Nat.one_mul _).symm)
    (fun b a ha => by fin_cases a <;> first | exact absurd rfl ha | rfl) rfl
    (fun a ha => by fin_cases a <;> first | exact absurd rfl ha | rfl) rfl

variable (c : Fin (grid0.bound 0))

theorem bankP_eq (g : Buf (Elt F) (shLoc d (c.castLE hcore0))) (b : Fin 4) :
    bankP d c g b = (shLoc d (c.castLE hcore0) ↦[bankSet b]{fullShare} g : sProp 𝕄) := by
  rw [← bank_set b]

/-- A SparseCore's scratch held whole is its four banks. -/
theorem banks_split (g : Buf (Elt F) (shLoc d (c.castLE hcore0))) :
    (shLoc d (c.castLE hcore0) ↦{fullShare} g : sProp 𝕄) = bigSep Finset.univ (bankP d c g) := by
  rw [Ring.pointsTo_blocks bankSet banks_disjoint banks_cover g]
  exact bigSep_congr fun b _ => (bankP_eq d c g b).symm

/-- Its banks, whatever each holds, are the scratch at some contents. -/
theorem banks_join (g : Buf (Elt F) (shLoc d (c.castLE hcore0))) :
    bigSep Finset.univ (fun b => iprop(∃ g', bankP d c g' b)) ⊢ (iprop(∃ g', shLoc d (c.castLE hcore0) ↦{fullShare} g') : sProp 𝕄) := by
  refine BI.Entails.trans (BI.bigSep_mono fun b _ => ?_) (Ring.pointsTo_blocks_join_exists bankSet banks_disjoint banks_cover g)
  show iprop(∃ g', bankP d c g' b) ⊢ iprop(∃ g', shLoc d (c.castLE hcore0) ↦[bankSet b]{fullShare} g')
  iintro ⟨%g', H⟩
  iexists g'
  iapply (Entails.of_eq (bankP_eq d c g' b)); iexact H

end Cert.Proof.RingCopy

end
-- ==== Proof.Launch.lean ====
/-
  The kernel program's run, at arbitrary float values `F`: the call hands each of the two SparseCores its sixteen chunks of
  the table and of the output and takes them back with the output's chunks holding the table's, so after the call the
  output is the table; @main then gives the output a leading axis of extent one. Every weakly fair execution terminates
  with that result, the two arguments unchanged and every semaphore at zero.
-/
module

public import proofs.«01_k».proof.Proof.Pieces

@[expose] public section

noncomputable section

namespace Cert.Proof.RingCopy

open Cert.KernelIdeal Cert.KernelIdeal.Gen

open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- Where the launch's handshakes live in the algebra. -/
abbrev EH : Emb UH (MT nD τ sig (HIx 1) (Elt F) ℕ UU ℕ) := embL

variable (m : (ℓ : Loc nD τ sig) → Buf (Elt F) ℓ) (ρ : Dev nD → PrngReg)

/-- A SparseCore's chunks: the table's at its launch contents, the output's at `f`. -/
abbrev chunks (d : Dev nD) (f : Buf (Elt F) (outLoc d)) (c : Fin (grid0.bound 0)) : sProp 𝕄 :=
  iprop(bigSep Finset.univ (peP d c (m (peLoc d))) ∗ bigSep Finset.univ (outP d c f))

/-- What the call hands a sequencer and what it takes back: its chunks, the output's at their launch contents one way and at the
    table's the other. -/
def P : (K (F := F)).Pay (nD := nD) (Val := Elt F) (Name := ℕ) (U := UU) where
  st := fun q d => match q with | 0 => chunks m d (m (outLoc d))
  dn := fun q d => match q with | 0 => chunks m d (asOut d (m (peLoc d)))
  go := fun _ _ _ _ => iprop(emp)
  td := fun _ _ _ _ => iprop(emp)
  x := fun _ _ => iprop(emp)

instance P_storable : (P (F := F) m).IsStorable where
  st q d c := by match q with | 0 => unfold P; infer_instance
  dn q d c := by match q with | 0 => unfold P; infer_instance
  go _ _ _ _ := by unfold P; infer_instance
  td _ _ _ _ := by unfold P; infer_instance

/-- Both SparseCores' chunks are the table and the output, whole. -/
theorem chunks_whole (d : Dev nD) (f : Buf (Elt F) (outLoc d)) :
    (bigSep Finset.univ fun c : Fin 2 => chunks m d f c) = iprop((peLoc d ↦{fullShare} m (peLoc d)) ∗ outLoc d ↦{fullShare} f) := by
  rw [pe_chunks, out_chunks, ← bigSep_sep']

/-- What comes back from both. -/
theorem dn_whole (d : Dev nD) : (bigSep Finset.univ fun c : Fin ((K (F := F)).nCore 0) => (P m).dn 0 d c)
    = iprop((peLoc d ↦{fullShare} m (peLoc d)) ∗ outLoc d ↦{fullShare} asOut d (m (peLoc d))) := chunks_whole m d _

/-! ## A sequencer's body, from what it owns -/

section Body

variable (d : Dev nD) (c : Fin (grid0.bound 0))

/-- Semaphore `k` of a sequencer. -/
abbrev gcell (k : Fin 8) : GSem nD τ sig := (thr d c, SemLoc.dma (k : DmaSem sig))

theorem gcell_mem (k : Fin 8) : gcell d c k ∈ ownCells (thr d c) :=
  mem_ownCells.mpr ⟨rfl, (show ∀ s : DmaSem sig, (SemLoc.dma s : SemLoc sig).isScoped .scScalar = true by decide) k⟩

/-- The eight DMA semaphores among a sequencer's own. -/
theorem ownSems_split : (ownSems0 (thr d c) : sProp 𝕄) = iprop(bigSep Finset.univ (cell0 d c)
    ∗ bigSep (ownCells (thr d c) \ Finset.univ.image (gcell d c)) fun g => semVal g 0) := by
  unfold SparseCore.Cfg.ownSems0
  have hinj : Set.InjOn (gcell d c) (Finset.univ : Finset (Fin 8)) := fun a _ b _ h => SemLoc.dma.inj (congrArg (fun g : GSem nD τ sig => g.2) h)
  rw [SparseCore.bigSep_sdiff_split' (t := Finset.univ.image (gcell d c)) (Finset.image_subset_iff.mpr fun k _ => gcell_mem d c k),
    SparseCore.bigSep_image_of_injOn hinj]

/-- The shared scratch among a sequencer's own buffers. -/
theorem ownBufs_split : (ownBufs (thr d c) : sProp 𝕄) = iprop((∃ g, shLoc d (c.castLE hcore0) ↦{fullShare} g)
    ∗ bigSep ((ownRefs (τ := τ) (.scScalar (c.castLE hcore0))).erase ((Proc.scScalar (c.castLE hcore0)).devRef cc0_scratch0))
        fun b => iprop(∃ f, ((d, b) : Loc nD τ sig) ↦{fullShare} f)) := by
  unfold SparseCore.Cfg.ownBufs
  exact SparseCore.bigSep_erase' ((mem_ownRefs (p := Proc.scScalar (c.castLE hcore0)) (b := (Proc.scScalar (c.castLE hcore0)).devRef cc0_scratch0)).mpr rfl)

variable [FloatOps F]

/-- The body from a sequencer's chunks, its own buffers and its own semaphores, to the same with the table's chunks in the
    output. -/
theorem body (O : CellTallies nD τ sig (HIx 1)) (W : Waits sig (HIx 1)) (hO : ∀ g, O g none = 0) :
    iprop(levAts (K (F := F)).L (K (F := F)).lev ∗ emp ∗ chunks m d (m (outLoc d)) c
        ∗ scopedBufs (thr d c) ∗ scopedSems0 (thr d c) ∗ owes (thr d c) O W)
      ⊢ wp frame (wpE (defs₀ (F := F)) Variants.none (thr d c) none) Set.univ
          (cc0_copy_k (pt c) (Memref.whole main_arg1_scs) (Memref.isWhole_whole _) (Memref.whole main_v0_scs) (Memref.isWhole_whole _)
            (Memref.whole cc0_scratch0) (Memref.isWhole_whole _)
            cc0_scratch1 cc0_scratch2 cc0_scratch3 cc0_scratch4 cc0_scratch5 cc0_scratch6 cc0_scratch7 cc0_scratch8)
          fun _ => iprop(chunks m d (asOut d (m (peLoc d))) c ∗ scopedBufs (thr d c) ∗ scopedSems0 (thr d c)
            ∗ ∃ W', ⌜∀ p ∈ W', p ∈ W ∨ p.2 = none ∨ p.2 = some (0 : Fin 1)⌝ ∗ owes (thr d c) O W') := by
  rw [(K (F := F)).scopedBufs_S facts d _, SparseCore.Cfg.scopedSems0_S (Val := Elt F) d _, ownSems_split, ownBufs_split]
  iintro ⟨#Hlv, -, ⟨Hp, Ho⟩, ⟨⟨⟨%g, Hsh⟩, Hbufs⟩, Htb⟩, ⟨⟨Hc, Hsems⟩, Hts⟩, HO⟩
  ihave Hmw := ((K (F := F)).mayWaits_none (thr := thr d c) hO) $$ Hlv
  ihave Hb := (Entails.of_eq (banks_split (F := F) d c g)) $$ Hsh
  iapply (wp_wand_r Idealize.ShloMosaic.frame (wpE (defs₀ (F := F)) Variants.none (thr d c) none) Set.univ)
  isplitl [Hp Ho Hb Hc HO]
  · iapply (body_run d c (m (peLoc d)) (m (outLoc d)) g O W)
    isplitr; · iexact Hmw
    isplitl [Hp]; · iexact Hp
    isplitl [Ho]; · iexact Ho
    isplitl [Hb]; · iexact Hb
    isplitl [Hc]; · iexact Hc
    iexact HO
  iintro %_ ⟨Hp, Ho, Hb, Hc, %W', HO⟩
  isplitl [Hp Ho]
  · isplitl [Hp]; · iexact Hp
    iapply (stored_all d c (m (peLoc d)) (m (outLoc d)) g); iexact Ho
  isplitl [Hb Hbufs Htb]
  · isplitl [Hb Hbufs]
    · isplitl [Hb]; · iapply (banks_join d c g); iexact Hb
      iexact Hbufs
    iexact Htb
  isplitl [Hc Hsems Hts]
  · isplitl [Hc Hsems]
    · isplitl [Hc] <;> iassumption
    iexact Hts
  iexists W'; isplitr
  · ipureintro; intro p _
    rcases p.2 with _ | q
    · exact .inr (.inl rfl)
    · exact .inr (.inr (congrArg some (Subsingleton.elim q 0)))
  · iexact HO

end Body

variable [FloatOps F]

/-! ## The launch theorem's obligations -/

theorem defs₀_scalar (c : Fin τ.nSC) :
    defs₀ (F := F) (.scScalar c) 0 ()
      = SparseCore.onCore hcore0 (fun c => cc0_copy_k (pt c) (Memref.whole main_arg1_scs) (Memref.isWhole_whole _) (Memref.whole main_v0_scs) (Memref.isWhole_whole _)
            (Memref.whole cc0_scratch0) (Memref.isWhole_whole _)
            cc0_scratch1 cc0_scratch2 cc0_scratch3 cc0_scratch4 cc0_scratch5 cc0_scratch6 cc0_scratch7 cc0_scratch8) ⟨⟩ c := rfl

/-- Each sequencer the call starts runs its body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) Variants.none _ Set.univ none _ _)
  have hc : ((K (F := F)).core 0 c).val < grid0.bound 0 := c.isLt
  rw [defs₀_scalar]; simp only [SparseCore.onCore, hc, ↓reduceDIte]
  exact body m d c O W hO

/-- The launch element: the handshakes' tokens. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr <;> iempintro

/-! ## @main on the TensorCore -/

abbrev argLoc (d : Dev nD) : Loc nD τ sig := (SparseCore.T d).loc main_arg0
abbrev resLoc (d : Dev nD) : Loc nD τ sig := (SparseCore.T d).loc main_v1

/-- The output and the result, as the operation after the call names them. -/
abbrev out' : DevRef τ sig := Proc.devRef .tc (main_v0 : Ref sig .tc)
abbrev res' : DevRef τ sig := Proc.devRef .tc (main_v1 : Ref sig .tc)

/-- The operation after the call: a leading axis of extent one. -/
abbrev opLead : HloOp τ sig (Elt F) :=
  StableHlo.unary main_v0 main_v1 (broadcastInDim S1x8192x1024 ![1, 2] bcast_S8192x1024_S1x8192x1024_1_2 : (⟨S8192x1024, .f32⟩ : BufTy).Contents (Elt F) → (⟨S1x8192x1024, .f32⟩ : BufTy).Contents (Elt F))

/-- The result: the table under a leading axis of extent one. -/
def result (d : Dev nD) : Buf (Elt F) (resLoc d) :=
  (broadcastInDim S1x8192x1024 ![1, 2] bcast_S8192x1024_S1x8192x1024_1_2 : (⟨S8192x1024, .f32⟩ : BufTy).Contents (Elt F) → (⟨S1x8192x1024, .f32⟩ : BufTy).Contents (Elt F)) (asOut d (m (peLoc d)))

/-- The memory after the call: the output holds the table. -/
def after (d : Dev nD) : Valuation τ sig (Elt F) := Function.update (fun b => m (d, b)) out' (asOut d (m (peLoc d)))

theorem after_out (d : Dev nD) : after m d out' = asOut d (m (peLoc d)) := Function.update_self _ _ _
theorem after_res (d : Dev nD) : after m d res' = m (resLoc d) := Function.update_of_ne (show res' ≠ out' by decide) _ _

/-- The operation's two arrays held, one by one. -/
theorem held_two (d : Dev nD) (V : Valuation τ sig (Elt F)) :
    (held (SparseCore.T d) {out', res'} V : sProp 𝕄) = iprop((outLoc d ↦{fullShare} V out') ∗ resLoc d ↦{fullShare} V res') := by
  unfold held
  rw [SparseCore.bigSep_insert' (by decide), bigSep_singleton]

theorem lead_res (d : Dev nD) : (opLead (F := F)).result (after m d) res' = result m d :=
  (StableHlo.unary_result _ _ _ _ _ _).trans (congrArg _ (after_out m d))

/-- The TensorCore's arrays at launch, one by one. -/
theorem arrays (d : Dev nD) : (unscopedBufs d (fun b => m ((SparseCore.T d).loc b)) : sProp 𝕄)
    = iprop((argLoc d ↦{fullShare} m (argLoc d)) ∗ (peLoc d ↦{fullShare} m (peLoc d)) ∗ (outLoc d ↦{fullShare} m (outLoc d)) ∗ resLoc d ↦{fullShare} m (resLoc d)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What @main leaves: the arguments as they were and the result. -/
abbrev FIN (d : Dev nD) : sProp 𝕄 :=
  iprop((argLoc d ↦{fullShare} m (argLoc d)) ∗ (peLoc d ↦{fullShare} m (peLoc d)) ∗ resLoc d ↦{fullShare} result m d)

/-- @main on a device's TensorCore: the call, the table and the output going to the two SparseCores and back, then the
    leading axis. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Ha, Hp, Ho, Hr⟩, Hts, -⟩, -⟩
  iapply ((K (F := F)).wp_run (D (F := F)) 𝒱 (EH := EH) (P := P m) κ d 0) $$ [Hst Ha Hp Ho Hb Hr Hts]
  isplitr; · iexact Hctx
  isplitl [Hst]; · iexact Hst
  isplitl [Hp Ho]
  · iapply (Entails.of_eq (chunks_whole m d (m (outLoc d))).symm)
    isplitl [Hp] <;> iassumption
  iintro ⟨Hst, Hdn⟩
  ihave Hdn' := (Entails.of_eq (dn_whole m d)) $$ Hdn
  icases Hdn' with ⟨Hp, Ho⟩
  iapply (wp_hlo_within 𝒱 (SparseCore.T d) none Set.univ (op := opLead) (S := {out', res'})
    (show ({out', res'} : Finset (DevRef τ sig)) ⊆ {out', res'} by decide) (V := after m d)) $$ [Hb Ho Hr]
  · isplitl [Hb]; · iexact Hb
    rw [held_two, after_out, after_res]
    isplitl [Ho] <;> iassumption
  rw [held_two, lead_res]
  iintro ⟨Hb, -, Hr⟩
  rw [wp_ret]; imodintro; imodintro
  isplitl [Hst]; · iexact Hst
  isplitr [Hb Hts]
  · isplitl [Ha]; · iexact Ha
    isplitl [Hp] <;> iassumption
  isplitl [Hb] <;> iassumption

/-! ## The run -/

/-- What a final memory says of device `d`. -/
def fq (d : Dev nD) (s' : Phys nD τ sig (Elt F)) : Prop :=
  s'.mem.mem (argLoc d) = m (argLoc d) ∧ s'.mem.mem (peLoc d) = m (peLoc d) ∧ s'.mem.mem (resLoc d) = result m d

/-- A buffer held whole is what the memory holds. -/
theorem agrees (s' : Phys nD τ sig (Elt F)) (ℓ : Loc nD τ sig) (f : Buf (Elt F) ℓ) :
    iprop((ℓ ↦{fullShare} f) ∗ SI s') ⊢ (iprop(SI s' ∗ ⌜s'.mem.mem ℓ = f⌝) : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitl [HSI]; · iexact HSI
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Ha, Hp, Hr⟩, HSI⟩
  ihave H := (agrees s' _ _) $$ [Ha HSI]
  · isplitl [Ha] <;> iassumption
  icases H with ⟨HSI, %ha⟩
  ihave H := (agrees s' _ _) $$ [Hp HSI]
  · isplitl [Hp] <;> iassumption
  icases H with ⟨HSI, %hp⟩
  ihave H := (agrees s' _ _) $$ [Hr HSI]
  · isplitl [Hr] <;> iassumption
  icases H with ⟨-, %hr⟩
  ipureintro; exact ⟨ha, hp, hr⟩

/-- What the run establishes of a final state: on every device the arguments unchanged and the result the table under a
    leading axis; every semaphore at zero. -/
def Final (r : PUnit × MemSt nD τ sig (Elt F)) : Prop :=
  (∀ c : Dev nD, r.2.mem (argLoc c) = m (argLoc c) ∧ r.2.mem (peLoc c) = m (peLoc c) ∧ r.2.mem (resLoc c) = result m c) ∧ r.2.sem = fun _ => 0

/-- Every weakly fair execution of the kernel program terminates, nothing faulting, in such a state. -/
theorem run_main [∀ e, Nonempty (Elt F e)] :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (Final m) (fun _ h hz => ⟨h, hz⟩)

end Cert.Proof.RingCopy

end
-- ==== Proof.RefValue.lean ====
/-
  The reference's value, at arbitrary float values `F`. The reference looks the table up at the positions 0, 1, …, 8191: a
  position below zero would be counted from the end, and a position outside the table would give a NaN row. Every position
  being in range, neither happens, and each looked-up row is the table's row of the same number, so the result is the table
  under a leading axis of extent one.
-/
module

public import proofs.«01_k».proof.Defs
public import proofs.«01_k».proof.Proof.Gen.ReferenceIdeal
public import proofs.«01_k».proof.Proof.Gen.ReferenceIdeal.Run
public import Idealize.ShloMosaic.Lib.Quiescent
public import Idealize.ShloMosaic.Lib.ReduceAll
public import Idealize.ShloMosaic.Lib.WordCmp
public import Idealize.ShloMosaic.Lib.ValueIdxCore

@[expose] public section

noncomputable section

namespace Cert.Proof.Lookup

open Cert.ReferenceIdeal Cert.ReferenceIdeal.Gen
open Idealize.ShloMosaic Idealize.ShloMosaic.WordCmp Idealize.SL.Sem

variable {F : FTy → Type}

/-! ## The positions -/

/-- The positions 0, 1, …, 8191 as one row. -/
abbrev count : IVec S1x8192 32 := broadcastInDim S1x8192 ![1] bcast_S8192_S1x8192_1 (iotaInDim S8192 32 0)

/-- The positions after those below zero are counted from the end, with the trailing axis the lookup wants. -/
abbrev spots : IVec S1x8192x1 32 :=
  broadcastInDim S1x8192x1 ![0, 1] bcast_S1x8192_S1x8192x1_0_1
    (select (cmpi .slt count (broadcastInDim S1x8192 ![] bcast_S_S1x8192 (constantI S_ 32 0#32)))
      (addi count (broadcastInDim S1x8192 ![] bcast_S_S1x8192 (constantI S_ 32 8192#32))) count)

/-- A word that counts below 8192 is, read signed, not below zero. -/
theorem not_below {n : ℕ} (h : n < 8192) : IntOp.cmpi .slt (BitVec.ofNat 32 n) (BitVec.ofNat 32 0) = 0#1 := by
  rw [cmpi_slt_ofNat (by norm_num; omega) (by norm_num), decide_eq_false (by omega)]; rfl

/-- Such a word is at least zero. -/
theorem from_zero {n : ℕ} (h : n < 8192) : IntOp.cmpi .sge (BitVec.ofNat 32 n) (BitVec.ofNat 32 0) = 1#1 := by
  rw [cmpi_sge_ofNat (by norm_num; omega) (by norm_num), decide_eq_true (by omega)]; rfl

/-- Such a word is at most the last row's number. -/
theorem to_last {n : ℕ} (h : n < 8192) : IntOp.cmpi .sle (BitVec.ofNat 32 n) (BitVec.ofNat 32 8191) = 1#1 := by
  rw [cmpi_sle_ofNat (by norm_num; omega) (by norm_num), decide_eq_true (by omega)]; rfl

/-- Such a word read signed is the count itself. -/
theorem reads_back {n : ℕ} (h : n < 8192) : (BitVec.ofNat 32 n).toInt.toNat = n := by
  rw [BitVec.toInt_eq_toNat_of_lt (by rw [BitVec.toNat_ofNat]; omega), BitVec.toNat_ofNat]; omega

/-- The middle coordinate counts below 8192. -/
theorem mid_lt (i : S1x8192x1.Idx) : (i 1).val < 8192 := (i 1).isLt

/-- The looked-up position is the coordinate on the middle axis. -/
theorem spots_at (i : S1x8192x1.Idx) : spots i = BitVec.ofNat 32 (i 1).val := by
  show Scalar.select (IntOp.cmpi .slt (BitVec.ofNat 32 (i 1).val) (BitVec.ofNat 32 0)) _ (BitVec.ofNat 32 (i 1).val) = _
  rw [not_below (mid_lt i), ValueIdx.select_zero]

/-! ## The range test -/

/-- For every position, whether it lies in the table. -/
abbrev inTable : IVec S1x8192 1 :=
  Host.reduce IntOp.andi
    (andi (cmpi .sge spots (broadcastInDim S1x8192x1 ![] bcast_S_S1x8192x1 (constantI S_ 32 0#32)))
      (cmpi .sle spots (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- Every position lies in the table. -/
theorem inTable_at (j : S1x8192.Idx) : inTable j = 1#1 :=
  Host.reduce_andi_one _ _ _ _ j rfl fun i => by
    show IntOp.andi (IntOp.cmpi .sge (spots i) (BitVec.ofNat 32 0)) (IntOp.cmpi .sle (spots i) (BitVec.ofNat 32 8191)) = 1#1
    rw [spots_at, from_zero (mid_lt i), to_last (mid_lt i)]; rfl

/-! ## The rows looked up -/

/-- Which axes the lookup reads: a whole row of the table for each position. -/
abbrev dims : GatherDims S8192x1024 S1x8192x1 S1x8192x1024 := gather_S8192x1024_S1x8192x1_S1x8192x1024_2_0_n_n_0_2_11024

/-- The table's element a result index wants: the row its middle coordinate counts, the column its last. -/
abbrev want (j : S1x8192x1024.Idx) : S8192x1024.Idx := ValueIdx.ix2 ⟨(j 1).val, (j 1).isLt⟩ ⟨(j 2).val, (j 2).isLt⟩

/-- The place of the position that result index `j` uses. -/
abbrev place (j : S1x8192x1024.Idx) : S1x8192x1.Idx :=
  ValueIdx.ix3 ⟨(j 0).val, (j 0).isLt⟩ ⟨(j 1).val, (j 1).isLt⟩ ⟨0, Nat.one_pos⟩

/-- The row looked up: the position, which is in range. -/
theorem row_start (j : S1x8192x1024.Idx) : dims.start j spots 0 = (j 1).val := by
  have hin : (0 : Fin 2) ∈ dims.startIndexMap := List.mem_singleton.mpr rfl
  have hplace : dims.siIdx j ⟨List.idxOf (0 : Fin 2) dims.startIndexMap, List.idxOf_lt_length_iff.2 hin⟩ = place j := by
    funext b; apply Fin.ext
    match b with
    | ⟨0, _⟩ => rfl
    | ⟨1, _⟩ => rfl
    | ⟨2, _⟩ => rfl
  have hj : (j 1).val < 8192 := (j 1).isLt
  unfold GatherDims.start
  rw [dif_pos hin, hplace, spots_at]
  show min (BitVec.ofNat 32 (j 1).val).toInt.toNat 8191 = _
  rw [reads_back hj]; omega

/-- Along a row the lookup starts at its first column. -/
theorem col_start (j : S1x8192x1024.Idx) : dims.start j spots 1 = 0 := by
  unfold GatherDims.start
  exact dif_neg (show (1 : Fin 2) ∉ [(0 : Fin 2)] by decide)

/-- The lookup takes the whole of row `j 1`. -/
theorem looked_up (x : S8192x1024.Idx → Elt F .f32) (j : S1x8192x1024.Idx) : Host.gather dims x spots j = x (want j) := by
  unfold Host.gather
  refine congrArg x (funext fun a => Fin.ext ?_)
  show dims.start j spots a + dims.batchCoord j a + dims.offCoord j a = _
  rw [GatherDims.batchCoord_eq_zero _ _ _ List.not_mem_nil, Nat.add_zero]
  match a with
  | ⟨0, _⟩ =>
    rw [GatherDims.offCoord_eq_zero _ _ _ fun h => ((GatherDims.mem_sKept _ _).mp h).1 (List.mem_singleton.mpr rfl)]
    exact row_start j
  | ⟨1, _⟩ =>
    refine (congrArg (· + _) (col_start j)).trans ((Nat.zero_add _).trans ?_)
    unfold GatherDims.offCoord
    exact dif_pos (show (1 : Fin 2) ∈ dims.sKept by decide)

/-! ## The result -/

variable [FloatOps F]

/-- The table under a leading axis of extent one. -/
abbrev led (h : S8192x1024.BroadcastsInDim S1x8192x1024 ![1, 2]) (x : S8192x1024.Idx → Elt F .f32) : S1x8192x1024.Idx → Elt F .f32 :=
  broadcastInDim S1x8192x1024 ![1, 2] h x

/-- The reference's lookup, NaN rows where a position is out of range, is the table under a leading axis. -/
theorem lookup_eq (h : S8192x1024.BroadcastsInDim S1x8192x1024 ![1, 2]) (x : S8192x1024.Idx → Elt F .f32) :
    select (broadcastInDim S1x8192x1024 ![0, 1] bcast_S1x8192_S1x8192x1024_0_1 inTable) (Host.gather dims x spots)
      (broadcastInDim S1x8192x1024 ![] bcast_S_S1x8192x1024 (constant (F := F) S_ .f32 0x7FC00000#32)) = led h x := by
  funext j
  show Scalar.select (broadcastInDim S1x8192x1024 ![0, 1] bcast_S1x8192_S1x8192x1024_0_1 inTable j) (Host.gather dims x spots j) _ = _
  rw [show broadcastInDim S1x8192x1024 ![0, 1] bcast_S1x8192_S1x8192x1024_0_1 inTable j = 1#1 from inTable_at _,
    ValueIdx.select_one, looked_up]
  refine congrArg x (funext fun a => Fin.ext ?_)
  match a with
  | ⟨0, _⟩ => rfl
  | ⟨1, _⟩ => rfl

/-- Every weakly fair execution of the reference terminates with the table under a leading axis as its result, the arguments
    unchanged and every semaphore at zero. -/
theorem run_lookup (h : S8192x1024.BroadcastsInDim S1x8192x1024 ![1, 2])
    (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = led h (m ((c.tc : Thread nD τ).loc main_arg1)) ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r hr => ⟨fun c => ⟨(hr c).1.trans (lookup_eq h _), (hr c).2⟩, sem_eq_zero_of_no_sems (by decide) r.2⟩)
    (Cert.ReferenceIdeal.Value.run m ρ)

end Cert.Proof.Lookup

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's frame: the one run with floats as bit patterns. -/
theorem frame_kernel : Cert.quiescent_Kernel := fun m ρ _ =>
  (θ_run Cert.KernelIdeal.defs _ _).mono (fun _ h => ⟨fun c => ⟨(h.1 c).1, (h.1 c).2.1⟩, h.2⟩) (RingCopy.run_main (F := Bits) m ρ)

/-- The ideal kernel's frame: the same run at the ideal float values. -/
theorem frame_kernel_ideal : Cert.quiescent_KernelIdeal := fun m ρ _ =>
  (θ_run Cert.KernelIdeal.defs _ _).mono (fun _ h => ⟨fun c => ⟨(h.1 c).1, (h.1 c).2.1⟩, h.2⟩) (RingCopy.run_main (F := Ideal) m ρ)

/-- The shape fact under which the reference's result and the kernel's are both written. -/
abbrev leads := Cert.KernelIdeal.Gen.facts.bcast_S8192x1024_S1x8192x1024_1_2

/-- The ideal reference's frame. -/
theorem frame_reference_ideal : Cert.quiescent_ReferenceIdeal := fun m ρ _ =>
  (θ_run Cert.ReferenceIdeal.defs _ _).mono (fun _ h => ⟨fun c => (h.1 c).2, h.2⟩) (Lookup.run_lookup (F := Ideal) leads m ρ)

/-- The reference's frame: the same run with floats as bit patterns. -/
theorem frame_reference : Cert.quiescent_Reference := fun m ρ _ =>
  (θ_run Cert.ReferenceIdeal.defs _ _).mono (fun _ h => ⟨fun c => (h.1 c).2, h.2⟩) (Lookup.run_lookup (F := Bits) leads m ρ)

/-- From memories agreeing on the arguments, with floats as bit patterns, kernel and reference both end with the table
    under a leading axis of extent one. -/
theorem bitexact : Cert.bitexact_Kernel_Reference := fun m ρ m' ρ' _ hm =>
  ⟨RingCopy.result (F := Bits) m,
    (θ_run Cert.KernelIdeal.defs _ _).mono (fun _ h c => ⟨(h.1 c).2.2, (h.1 c).1, (h.1 c).2.1⟩) (RingCopy.run_main (F := Bits) m ρ),
    (θ_run Cert.ReferenceIdeal.defs _ _).mono (fun _ h c => ⟨(h.1 c).1.trans (congrArg (Lookup.led leads) (hm c).2), (h.1 c).2⟩)
      (Lookup.run_lookup (F := Bits) leads m' ρ')⟩

/-- The same at the ideal float values. -/
theorem algebraic : Cert.algebraic_KernelIdeal_ReferenceIdeal := fun m ρ m' ρ' _ hm =>
  ⟨RingCopy.result (F := Ideal) m,
    (θ_run Cert.KernelIdeal.defs _ _).mono (fun _ h c => ⟨(h.1 c).2.2, (h.1 c).1, (h.1 c).2.1⟩) (RingCopy.run_main (F := Ideal) m ρ),
    (θ_run Cert.ReferenceIdeal.defs _ _).mono (fun _ h c => ⟨(h.1 c).1.trans (congrArg (Lookup.led leads) (hm c).2), (h.1 c).2⟩)
      (Lookup.run_lookup (F := Ideal) leads m' ρ')⟩

/-- Everything claimed. -/
theorem claim : Cert.Claim := ⟨Cert.Kernel.Gen.facts, Cert.KernelIdeal.Gen.facts, Cert.ReferenceIdeal.Gen.facts, Cert.Reference.Gen.facts,
  frame_kernel, frame_kernel_ideal, frame_reference_ideal, frame_reference, trivial, bitexact, algebraic⟩

end Cert.Proof

end
